-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log_half" .f32 0xBF317218#32 ((Real.log (1 / 2) : ℝ) : EReal)

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range_and_finite : Cert.Pre_in_range_and_finite.Facts),
    quiescent_Kernel (hKernel := hKernel)
    ∧ quiescent_KernelIdeal (hKernelIdeal := hKernelIdeal)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S500000 : Shape := ⟨1, ![500000]⟩
abbrev S8192 : Shape := ⟨1, ![8192]⟩
abbrev S1000x200 : Shape := ⟨2, ![1000, 200]⟩
abbrev S24x200 : Shape := ⟨2, ![24, 200]⟩
abbrev S1x200 : Shape := ⟨2, ![1, 200]⟩
abbrev S600x200 : Shape := ⟨2, ![600, 200]⟩
abbrev S200 : Shape := ⟨1, ![200]⟩
abbrev S_ : Shape := ⟨0, ![]⟩

class Facts : Prop where
  bcast_S_S8192 : S_.BroadcastsInDim S8192 (![] : Fin 0 → Fin S8192.rank)
  bcast_S_S1000x200 : S_.BroadcastsInDim S1000x200 (![] : Fin 0 → Fin S1000x200.rank)
  bcast_S_S24x200 : S_.BroadcastsInDim S24x200 (![] : Fin 0 → Fin S24x200.rank)
  bcast_S_S1x200 : S_.BroadcastsInDim S1x200 (![] : Fin 0 → Fin S1x200.rank)
  bcast_S_S600x200 : S_.BroadcastsInDim S600x200 (![] : Fin 0 → Fin S600x200.rank)
  bcast_S_S200 : S_.BroadcastsInDim S200 (![] : Fin 0 → Fin S200.rank)

variable [Facts]

def fn_part1 {F : FTy → Type} [FloatOps F] (main_arg9 : FVec F S600x200 .f32) (main_arg10 : FVec F S200 .f32) (main_v4 : IVec S8192 1) (main_v9 : IVec S8192 1) (main_v12 : IVec S1000x200 1) (main_v15 : IVec S24x200 1) (main_v16 : FVec F S1x200 .f32) (main_cst_4 : FVec F S_ .f32) : IVec S8192 1 × IVec S8192 1 × IVec S1000x200 1 × IVec S24x200 1 × IVec S1x200 1 × IVec S600x200 1 × IVec S200 1 :=
  let main_v17 : FVec F S1x200 .f32 := broadcastInDim S1x200 ![] bcast_S_S1x200 main_cst_4
  let main_v18 : IVec S1x200 1 := cmpf .olt main_v16 main_v17
  let main_v19 : FVec F S600x200 .f32 := Host.absf main_arg9
  let main_cst_5 : FVec F S_ .f32 := constant S_ .f32 0x7F800000#32
  let main_v20 : FVec F S600x200 .f32 := broadcastInDim S600x200 ![] bcast_S_S600x200 main_cst_5
  let main_v21 : IVec S600x200 1 := cmpf .olt main_v19 main_v20
  let main_v22 : FVec F S200 .f32 := Host.absf main_arg10
  let main_cst_6 : FVec F S_ .f32 := constant S_ .f32 0x7F800000#32
  let main_v23 : FVec F S200 .f32 := broadcastInDim S200 ![] bcast_S_S200 main_cst_6
  let main_v24 : IVec S200 1 := cmpf .olt main_v22 main_v23
  (main_v4, main_v9, main_v12, main_v15, main_v18, main_v21, main_v24)

def fn {F : FTy → Type} [FloatOps F] (main_arg0 : IVec S500000 32) (main_arg1 : IVec S500000 32) (main_arg2 : IVec S500000 32) (main_arg3 : IVec S8192 32) (main_arg4 : IVec S8192 32) (main_arg5 : IVec S8192 32) (main_arg6 : FVec F S1000x200 .f32) (main_arg7 : FVec F S24x200 .f32) (main_arg8 : FVec F S1x200 .f32) (main_arg9 : FVec F S600x200 .f32) (main_arg10 : FVec F S200 .f32) (main_arg11 : FVec F S600x200 .f32) (main_arg12 : FVec F S200 .f32) : IVec S8192 1 × IVec S8192 1 × IVec S1000x200 1 × IVec S24x200 1 × IVec S1x200 1 × IVec S600x200 1 × IVec S200 1 :=
  let main_c : IVec S_ 32 := constantI S_ 32 0#32
  let main_v0 : IVec S8192 32 := broadcastInDim S8192 ![] bcast_S_S8192 main_c
  let main_v1 : IVec S8192 1 := cmpi .sge main_arg3 main_v0
  let main_c_0 : IVec S_ 32 := constantI S_ 32 1000#32
  let main_v2 : IVec S8192 32 := broadcastInDim S8192 ![] bcast_S_S8192 main_c_0
  let main_v3 : IVec S8192 1 := cmpi .slt main_arg3 main_v2
  let main_v4 : IVec S8192 1 := andi main_v1 main_v3
  let main_c_1 : IVec S_ 32 := constantI S_ 32 0#32
  let main_v5 : IVec S8192 32 := broadcastInDim S8192 ![] bcast_S_S8192 main_c_1
  let main_v6 : IVec S8192 1 := cmpi .sge main_arg4 main_v5
  let main_c_2 : IVec S_ 32 := constantI S_ 32 24#32
  let main_v7 : IVec S8192 32 := broadcastInDim S8192 ![] bcast_S_S8192 main_c_2
  let main_v8 : IVec S8192 1 := cmpi .slt main_arg4 main_v7
  let main_v9 : IVec S8192 1 := andi main_v6 main_v8
  let main_v10 : FVec F S1000x200 .f32 := Host.absf main_arg6
  let main_cst : FVec F S_ .f32 := constant S_ .f32 0x7F800000#32
  let main_v11 : FVec F S1000x200 .f32 := broadcastInDim S1000x200 ![] bcast_S_S1000x200 main_cst
  let main_v12 : IVec S1000x200 1 := cmpf .olt main_v10 main_v11
  let main_v13 : FVec F S24x200 .f32 := Host.absf main_arg7
  let main_cst_3 : FVec F S_ .f32 := constant S_ .f32 0x7F800000#32
  let main_v14 : FVec F S24x200 .f32 := broadcastInDim S24x200 ![] bcast_S_S24x200 main_cst_3
  let main_v15 : IVec S24x200 1 := cmpf .olt main_v13 main_v14
  let main_v16 : FVec F S1x200 .f32 := Host.absf main_arg8
  let main_cst_4 : FVec F S_ .f32 := constant S_ .f32 0x7F800000#32
  fn_part1 (F := F) main_arg9 main_arg10 main_v4 main_v9 main_v12 main_v15 main_v16 main_cst_4
-- ==== Kernel.lean ====
abbrev S500000 : Shape := ⟨1, ![500000]⟩
abbrev S8192 : Shape := ⟨1, ![8192]⟩
abbrev S1000x200 : Shape := ⟨2, ![1000, 200]⟩
abbrev S24x200 : Shape := ⟨2, ![24, 200]⟩
abbrev S1x200 : Shape := ⟨2, ![1, 200]⟩
abbrev S600x200 : Shape := ⟨2, ![600, 200]⟩
abbrev S200 : Shape := ⟨1, ![200]⟩
abbrev S4x1x2048 : Shape := ⟨3, ![4, 1, 2048]⟩
abbrev S_ : Shape := ⟨0, ![]⟩
abbrev S600x56 : Shape := ⟨2, ![600, 56]⟩
abbrev S600x456 : Shape := ⟨2, ![600, 456]⟩
abbrev S56 : Shape := ⟨1, ![56]⟩
abbrev S456 : Shape := ⟨1, ![456]⟩
abbrev S1x456 : Shape := ⟨2, ![1, 456]⟩
abbrev S8192x600 : Shape := ⟨2, ![8192, 600]⟩
abbrev S8192x200 : Shape := ⟨2, ![8192, 200]⟩
abbrev S1x1x2048 : Shape := ⟨3, ![1, 1, 2048]⟩
abbrev S2048x600 : Shape := ⟨2, ![2048, 600]⟩
abbrev S2048x200 : Shape := ⟨2, ![2048, 200]⟩
abbrev S1x2048 : Shape := ⟨2, ![1, 2048]⟩
abbrev S200x456 : Shape := ⟨2, ![200, 456]⟩
abbrev S1000x512 : Shape := ⟨2, ![1000, 512]⟩
abbrev S24x512 : Shape := ⟨2, ![24, 512]⟩
abbrev S1x512 : Shape := ⟨2, ![1, 512]⟩
abbrev S512x200 : Shape := ⟨2, ![512, 200]⟩
abbrev S512x456 : Shape := ⟨2, ![512, 456]⟩
abbrev S512 : Shape := ⟨1, ![512]⟩
abbrev S512x1 : Shape := ⟨2, ![512, 1]⟩

abbrev nBuf : Space → Nat
  | .hbm => 24
  | .vmem => 13
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .i32⟩
  | .hbm, ⟨3, _⟩ => ⟨S8192, .i32⟩
  | .hbm, ⟨4, _⟩ => ⟨S8192, .i32⟩
  | .hbm, ⟨5, _⟩ => ⟨S8192, .i32⟩
  | .hbm, ⟨6, _⟩ => ⟨S1000x200, .f32⟩
  | .hbm, ⟨7, _⟩ => ⟨S24x200, .f32⟩
  | .hbm, ⟨8, _⟩ => ⟨S1x200, .f32⟩
  | .hbm, ⟨9, _⟩ => ⟨S600x200, .f32⟩
  | .hbm, ⟨10, _⟩ => ⟨S200, .f32⟩
  | .hbm, ⟨11, _⟩ => ⟨S600x200, .f32⟩
  | .hbm, ⟨12, _⟩ => ⟨S200, .f32⟩
  | .hbm, ⟨13, _⟩ => ⟨S4x1x2048, .i32⟩
  | .hbm, ⟨14, _⟩ => ⟨S4x1x2048, .i32⟩
  | .hbm, ⟨15, _⟩ => ⟨S_, .f32⟩
  | .hbm, ⟨16, _⟩ => ⟨S600x56, .f32⟩
  | .hbm, ⟨17, _⟩ => ⟨S600x456, .f32⟩
  | .hbm, ⟨18, _⟩ => ⟨S_, .f32⟩
  | .hbm, ⟨19, _⟩ => ⟨S56, .f32⟩
  | .hbm, ⟨20, _⟩ => ⟨S456, .f32⟩
  | .hbm, ⟨21, _⟩ => ⟨S1x456, .f32⟩
  | .hbm, ⟨22, _⟩ => ⟨S8192x600, .f32⟩
  | .hbm, ⟨23, _⟩ => ⟨S8192x200, .f32⟩
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S1000x200, .f32⟩
  | .local _ .vmem, ⟨5, _⟩ => ⟨S24x200, .f32⟩
  | .local _ .vmem, ⟨6, _⟩ => ⟨S1x200, .f32⟩
  | .local _ .vmem, ⟨7, _⟩ => ⟨S600x456, .f32⟩
  | .local _ .vmem, ⟨8, _⟩ => ⟨S1x456, .f32⟩
  | .local _ .vmem, ⟨9, _⟩ => ⟨S2048x600, .f32⟩
  | .local _ .vmem, ⟨10, _⟩ => ⟨S2048x600, .f32⟩
  | .local _ .vmem, ⟨11, _⟩ => ⟨S2048x200, .f32⟩
  | .local _ .vmem, ⟨12, _⟩ => ⟨S2048x200, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S600x456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log_half" => some ((Real.log (1 / 2) : ℝ) : EReal)
  | _ => none
-- ==== ReferenceIdeal.lean ====
abbrev S500000 : Shape := ⟨1, ![500000]⟩
abbrev S8192 : Shape := ⟨1, ![8192]⟩
abbrev S1000x200 : Shape := ⟨2, ![1000, 200]⟩
abbrev S24x200 : Shape := ⟨2, ![24, 200]⟩
abbrev S1x200 : Shape := ⟨2, ![1, 200]⟩
abbrev S600x200 : Shape := ⟨2, ![600, 200]⟩
abbrev S200 : Shape := ⟨1, ![200]⟩
abbrev S_ : Shape := ⟨0, ![]⟩
abbrev S1000x24x1000 : Shape := ⟨3, ![1000, 24, 1000]⟩
abbrev S500000x1 : Shape := ⟨2, ![500000, 1]⟩
abbrev S500000x3 : Shape := ⟨2, ![500000, 3]⟩
abbrev S8192x1 : Shape := ⟨2, ![8192, 1]⟩
abbrev S1 : Shape := ⟨1, ![1]⟩
abbrev S1x1 : Shape := ⟨2, ![1, 1]⟩
abbrev S8192x200 : Shape := ⟨2, ![8192, 200]⟩
abbrev S1x1x1x200 : Shape := ⟨4, ![1, 1, 1, 200]⟩
abbrev S8192x1x1x200 : Shape := ⟨4, ![8192, 1, 1, 200]⟩
abbrev S8192x600 : Shape := ⟨2, ![8192, 600]⟩
abbrev S8192x2 : Shape := ⟨2, ![8192, 2]⟩
abbrev S8192x1000 : Shape := ⟨2, ![8192, 1000]⟩

abbrev nBuf : Space → Nat
  | .hbm => 150
  | .vmem => 0
  | .smem => 0
  | _ => 0

abbrev hbmTy0_0 (i : Nat) : BufTy := match i % 128 with
  | 0 => ⟨S500000, .i32⟩
  | 1 => ⟨S500000, .i32⟩
  | 2 => ⟨S500000, .i32⟩
  | 3 => ⟨S8192, .i32⟩
  | 4 => ⟨S8192, .i32⟩
  | 5 => ⟨S8192, .i32⟩
  | 6 => ⟨S1000x200, .f32⟩
  | 7 => ⟨S24x200, .f32⟩
  | 8 => ⟨S1x200, .f32⟩
  | 9 => ⟨S600x200, .f32⟩
  | 10 => ⟨S200, .f32⟩
  | 11 => ⟨S600x200, .f32⟩
  | 12 => ⟨S200, .f32⟩
  | 13 => ⟨S_, .f32⟩
  | 14 => ⟨S1000x24x1000, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x1, .i32⟩
  | 38 => ⟨S500000x1, .i32⟩
  | 39 => ⟨S500000x3, .i32⟩
  | 40 => ⟨S_, .f32⟩
  | 41 => ⟨S500000, .f32⟩
  | 42 => ⟨S1000x24x1000, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S1, .i32⟩
  | 52 => ⟨S_, .i32⟩
  | 53 => ⟨S8192x1, .i32⟩
  | 54 => ⟨S8192x1, .i1⟩
  | 55 => ⟨S1x1, .i32⟩
  | 56 => ⟨S8192x1, .i32⟩
  | 57 => ⟨S8192x1, .i1⟩
  | 58 => ⟨S8192x1, .i1⟩
  | 59 => ⟨S_, .i1⟩
  | 60 => ⟨S8192, .i1⟩
  | 61 => ⟨S8192x200, .f32⟩
  | 62 => ⟨S8192x200, .i1⟩
  | 63 => ⟨S_, .f32⟩
  | 64 => ⟨S8192x200, .f32⟩
  | 65 => ⟨S8192x200, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S1, .i32⟩
  | 75 => ⟨S_, .i32⟩
  | 76 => ⟨S8192x1, .i32⟩
  | 77 => ⟨S8192x1, .i1⟩
  | 78 => ⟨S1x1, .i32⟩
  | 79 => ⟨S8192x1, .i32⟩
  | 80 => ⟨S8192x1, .i1⟩
  | 81 => ⟨S8192x1, .i1⟩
  | 82 => ⟨S_, .i1⟩
  | 83 => ⟨S8192, .i1⟩
  | 84 => ⟨S8192x200, .f32⟩
  | 85 => ⟨S8192x200, .i1⟩
  | 86 => ⟨S_, .f32⟩
  | 87 => ⟨S8192x200, .f32⟩
  | 88 => ⟨S8192x200, .f32⟩
  | 89 => ⟨S1x1x1x200, .f32⟩
  | 90 => ⟨S8192x1x1x200, .f32⟩
  | 91 => ⟨S8192x200, .f32⟩
  | 92 => ⟨S8192x600, .f32⟩
  | 93 => ⟨S8192x200, .f32⟩
  | 94 => ⟨S1x200, .f32⟩
  | 95 => ⟨S8192x200, .f32⟩
  | 96 => ⟨S8192x200, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x1, .i32⟩
  | 113 => ⟨S8192x2, .i32⟩
  | 114 => ⟨S8192x1000, .f32⟩
  | 115 => ⟨S_, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S8192x200, .f32⟩
  | 123 => ⟨S1x200, .f32⟩
  | 124 => ⟨S8192x200, .f32⟩
  | 125 => ⟨S8192x200, .f32⟩
  | 126 => ⟨S8192x200, .f32⟩
  | 127 => ⟨S_, .f32⟩
  | _ => ⟨S500000, .i32⟩

abbrev hbmTy0_1 (i : Nat) : BufTy := match i % 128 with
  | 0 => ⟨S8192x200, .f32⟩
  | 1 => ⟨S8192x200, .f32⟩
  | 2 => ⟨S_, .f32⟩
  | 3 => ⟨S8192, .f32⟩
  | 4 => ⟨S_, .f32⟩
  | 5 => ⟨S8192, .f32⟩
  | 6 => ⟨S8192, .f32⟩
  | 7 => ⟨S8192x1, .f32⟩
  | 8 => ⟨S8192x200, .f32⟩
  | 9 => ⟨S8192x200, .f32⟩
  | 10 => ⟨S8192x200, .f32⟩
  | 11 => ⟨S_, .f32⟩
  | 12 => ⟨S8192, .f32⟩
  | 13 => ⟨S8192x1, .f32⟩
  | 14 => ⟨S8192x200, .f32⟩
  | 15 => ⟨S8192x200, .f32⟩
  | 16 => ⟨S8192x200, .f32⟩
  | 17 => ⟨S_, .f32⟩
  | 18 => ⟨S8192x200, .f32⟩
  | 19 => ⟨S8192x200, .f32⟩
  | 20 => ⟨S8192x200, .f32⟩
  | 21 => ⟨S8192x200, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v22 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_c_6 : Ref sig .tc := ⟨.hbm, 97, rfl⟩
abbrev main_v32 : Ref sig .tc := ⟨.hbm, 98, rfl⟩
abbrev main_v33 : Ref sig .tc := ⟨.hbm, 99, rfl⟩
abbrev main_c_7 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_c_8 : Ref sig .tc := ⟨.hbm, 104, rfl⟩
abbrev main_v37 : Ref sig .tc := ⟨.hbm, 105, rfl⟩
abbrev main_v38 : Ref sig .tc := ⟨.hbm, 106, rfl⟩
abbrev main_c_9 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_10 : Ref sig .tc := ⟨.hbm, 115, rfl⟩
abbrev main_v46 : Ref sig .tc := ⟨.hbm, 116, rfl⟩
abbrev main_cst_11 : Ref sig .tc := ⟨.hbm, 117, rfl⟩
abbrev main_v47 : Ref sig .tc := ⟨.hbm, 118, rfl⟩
abbrev main_cst_12 : Ref sig .tc := ⟨.hbm, 119, rfl⟩
abbrev main_cst_13 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_14 : Ref sig .tc := ⟨.hbm, 130, rfl⟩
abbrev main_v57 : Ref sig .tc := ⟨.hbm, 131, rfl⟩
abbrev main_cst_15 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_16 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_17 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩

abbrev nD : Nat := 1
abbrev τ : Topo := Topo.v7x

variable {F : FTy → Type} [FloatOps F]
-- ==== Proof.Scalars.lean ====
/- The scalar facts of the equation, over extended reals: a sum over a one-hot column reads one entry; the
   hyperbolic tangent is a real number; a softmax does not see a real shift of its arguments; half of a sum
   under a logarithm. -/
module

public import Idealize.ShloMosaic.Lib.Pointwise

@[expose] public section

noncomputable section

namespace Cert.Scalars

open Idealize.ShloMosaic

/-! ## Rows of a table -/

/-- The entry of a table's column `f` at the row number the word `w` holds (zero when there is no such row). -/
def entry {n : ℕ} (w : BitVec 32) (f : Fin n → EReal) : EReal :=
  if h : w.toNat < n then f ⟨w.toNat, h⟩ else 0

/-- The entry at a row number the table has. -/
theorem entry_of_lt {n : ℕ} (w : BitVec 32) (f : Fin n → EReal) (h : w.toNat < n) : entry w f = f ⟨w.toNat, h⟩ :=
  dif_pos h

/-- The column `f` of a table summed against the one-hot vector of the row number `w`, both row numbers compared as
    words of sixteen bits. -/
def picked {n : ℕ} (w : BitVec 32) (f : Fin n → EReal) : EReal :=
  ∑ x : Fin n, Scalar.select (IntOp.cmpi CmpIPredicate.eq (BitVec.ofNat 16 (x : ℕ)) (BitVec.setWidth 16 w)) (f x) 0

/-- Two row numbers under 2 ^ 16 are equal as words of sixteen bits exactly when they are equal. -/
theorem word16_eq_iff (x : ℕ) (w : BitVec 32) (hx : x < 65536) (hw : w.toNat < 65536) :
    BitVec.ofNat 16 x = BitVec.setWidth 16 w ↔ x = w.toNat := by
  rw [← BitVec.toNat_inj, BitVec.toNat_ofNat, BitVec.toNat_setWidth, Nat.mod_eq_of_lt (by simpa using hx),
    Nat.mod_eq_of_lt (by simpa using hw)]

/-- The one-hot sum is the entry at the row number, for a table of at most 2 ^ 16 rows that has that row. -/
theorem picked_eq {n : ℕ} (hn : n ≤ 65536) (w : BitVec 32) (hw : w.toNat < n) (f : Fin n → EReal) :
    picked w f = entry w f := by
  rw [entry_of_lt w f hw]
  unfold picked
  rw [Finset.sum_eq_single (⟨w.toNat, hw⟩ : Fin n)]
  · have h : BitVec.ofNat 16 w.toNat = BitVec.setWidth 16 w := (word16_eq_iff _ w (by omega) (by omega)).2 rfl
    simp [h, Scalar.select, IntOp.cmpi]
  · intro x _ hx
    have h : BitVec.ofNat 16 (x : ℕ) ≠ BitVec.setWidth 16 w := fun h =>
      hx (Fin.ext ((word16_eq_iff _ w (by omega) (by omega)).1 h))
    simp only [Scalar.select, IntOp.cmpi, beq_eq_false_iff_ne.2 h]
    rfl
  · exact fun h => absurd (Finset.mem_univ _) h

/-! ## Real values -/

/-- The hyperbolic tangent of any extended real is a real number. -/
theorem tanh_real (x : EReal) : ∃ t : ℝ, Ideal.tanh x = (t : EReal) := by
  induction x using EReal.rec with
  | bot => exact ⟨-1, by show (-1 : EReal) = _; simp⟩
  | top => exact ⟨1, by show (1 : EReal) = _; simp⟩
  | coe r => exact ⟨Real.tanh r, rfl⟩

/-- The exponential of a real number is the real exponential. -/
theorem exp_coe (r : ℝ) : Ideal.exp (r : EReal) = ((Real.exp r : ℝ) : EReal) := rfl

/-- A finite sum of real numbers, taken over the extended reals. -/
theorem sum_coe {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The quotient of a real number by a real number other than zero. -/
theorem div_real (a b : ℝ) (hb : b ≠ 0) : Ideal.div (a : EReal) (b : EReal) = ((a / b : ℝ) : EReal) := by
  have h : ((b : ℝ) : EReal) ≠ 0 := by simpa using hb
  rw [Ideal.div, if_neg h, ← EReal.coe_inv, ← EReal.coe_mul, div_eq_mul_inv]

/-- A softmax entry of real numbers is a real number. -/
theorem softmax_real {n : ℕ} (t : Fin (n + 1) → ℝ) (j : Fin (n + 1)) :
    Ideal.div (Ideal.exp (t j)) (∑ l, Ideal.exp (t l)) = ((Real.exp (t j) / ∑ l, Real.exp (t l) : ℝ) : EReal) := by
  simp only [exp_coe]
  rw [sum_coe, div_real _ _ (Finset.sum_pos (fun l _ => Real.exp_pos _) ⟨0, Finset.mem_univ _⟩).ne']

/-- A softmax of real numbers does not change when one real number is added to every argument and another
    subtracted from it. -/
theorem softmax_shift {n : ℕ} (t : Fin (n + 1) → ℝ) (a b : ℝ) (j : Fin (n + 1)) :
    Ideal.div (Ideal.exp ((t j : EReal) + a - b)) (∑ l, Ideal.exp ((t l : EReal) + a - b))
      = Ideal.div (Ideal.exp (t j)) (∑ l, Ideal.exp (t l)) := by
  have h : ∀ l, ((t l : EReal) + a - b) = ((t l + (a - b) : ℝ) : EReal) := fun l => by
    rw [← EReal.coe_add, ← EReal.coe_sub, add_sub_assoc]
  simp only [h]
  rw [softmax_real (fun l => t l + (a - b)) j, softmax_real t j]
  simp only [Real.exp_add]
  rw [← Finset.sum_mul, mul_div_mul_right _ _ (Real.exp_pos _).ne']

/-- For real `g` and `c`: the logarithm of `g` moved halfway to `c` is the logarithm of `g + c` plus the
    logarithm of one half. -/
theorem log_mix (g c : ℝ) :
    Ideal.log ((g : EReal) + (((1 / 2 : ℝ) : EReal)) * ((c : EReal) - g))
      = Ideal.log ((g : EReal) + c) + ((Real.log (1 / 2) : ℝ) : EReal) := by
  have h : (g : EReal) + (((1 / 2 : ℝ) : EReal)) * ((c : EReal) - g) = (((g + c) * (1 / 2) : ℝ) : EReal) := by
    rw [← EReal.coe_sub, ← EReal.coe_mul, ← EReal.coe_add]
    congr 1
    ring
  rw [h, ← EReal.coe_add]
  show (if (g + c) * (1 / 2) ≤ 0 then (⊥ : EReal) else _) = (if g + c ≤ 0 then (⊥ : EReal) else _) + _
  by_cases hp : g + c ≤ 0
  · rw [if_pos hp, if_pos (by linarith), EReal.bot_add]
  · rw [if_neg hp, if_neg (by linarith), Real.log_mul (by linarith) (by norm_num), EReal.coe_add]

/-! ## Finite sums of products -/

/-- Neither infinity. -/
def Finite (x : EReal) : Prop := ∃ r : ℝ, x = (r : EReal)

/-- Sums of finite values are finite. -/
theorem Finite.add {x y : EReal} : Finite x → Finite y → Finite (x + y)
  | ⟨a, ha⟩, ⟨b, hb⟩ => ⟨a + b, by rw [ha, hb, EReal.coe_add]⟩

/-- Products of finite values are finite. -/
theorem Finite.mul {x y : EReal} : Finite x → Finite y → Finite (x * y)
  | ⟨a, ha⟩, ⟨b, hb⟩ => ⟨a * b, by rw [ha, hb, EReal.coe_mul]⟩

/-- Finite sums of finite values are finite. -/
theorem Finite.sum {n : ℕ} {f : Fin n → EReal} (h : ∀ i, Finite (f i)) : Finite (∑ i, f i) := by
  choose g hg using h
  exact ⟨∑ i, g i, by rw [← sum_coe]; exact Finset.sum_congr rfl fun i _ => hg i⟩

/-- Zero is finite. -/
theorem Finite.zero : Finite 0 := ⟨0, EReal.coe_zero.symm⟩

/-- An entry of a finite column is finite. -/
theorem Finite.entry {n : ℕ} (w : BitVec 32) {f : Fin n → EReal} (h : ∀ i, Finite (f i)) :
    Finite (Scalars.entry w f) := by
  unfold Scalars.entry
  split
  · exact h _
  · exact Finite.zero

/-- The larger of two extended reals between -∞ and a real number, one of them real, is real: the maximum of a
    real number and a value that is -∞ or real. -/
theorem Finite.max {x y : EReal} (hx : x = ⊥ ∨ Finite x) : Finite y → Finite (Max.max x y)
  | ⟨b, hb⟩ => by
    subst hb
    rcases hx with rfl | ⟨a, rfl⟩
    · exact ⟨b, by simp⟩
    · exact ⟨Max.max a b, (EReal.coe_strictMono.monotone.map_max).symm⟩

end Cert.Scalars

end
-- ==== Proof.Spec.lean ====
/- The two results as functions of the arguments, entry by entry: what both programs are proved to compute. -/
module

public import proofs.«01_k».proof.Proof.Scalars

@[expose] public section

noncomputable section

namespace Cert.Spec

open Idealize.ShloMosaic Cert.Scalars

/-- One row of the input matrix: the embedding of the row's subject `s`, then the embedding of its relation `r`, then
    the embedding of the one time stamp. -/
def xAt (s r : BitVec 32) (ent : FVec Ideal ⟨2, ![1000, 200]⟩ .f32) (rel : FVec Ideal ⟨2, ![24, 200]⟩ .f32)
    (tim : FVec Ideal ⟨2, ![1, 200]⟩ .f32) (k : Fin 600) : EReal :=
  if h : (k : ℕ) < 200 then entry s fun x => ent (ix2 x ⟨k, h⟩)
  else if h' : (k : ℕ) < 400 then entry r fun x => rel (ix2 x ⟨k - 200, by omega⟩)
  else tim (ix2 0 ⟨k - 400, by omega⟩)

/-- One entry of an affine layer: an input row against a column of weights, plus a bias. -/
def scoreAt (X W : Fin 600 → EReal) (b : EReal) : EReal := ∑ k, X k * W k + b

/-- One entry of the softmax of the hyperbolic tangents of a row `t`. -/
def softAt (t : Fin 200 → EReal) (j : Fin 200) : EReal :=
  Ideal.div (Ideal.exp (Ideal.tanh (t j))) (∑ l, Ideal.exp (Ideal.tanh (t l)))

/-- One entry of the result: the logarithm of the sum of the generation score `g j` and the copy probability that the
    row `t` of copy scores gives `j`, plus the logarithm of one half. -/
def logAt (g t : Fin 200 → EReal) (j : Fin 200) : EReal :=
  Ideal.log (g j + softAt t j) + ((Real.log (1 / 2) : ℝ) : EReal)

/-- The whole input matrix. -/
def xOut (sub rel : IVec ⟨1, ![8192]⟩ 32) (ent : FVec Ideal ⟨2, ![1000, 200]⟩ .f32)
    (remb : FVec Ideal ⟨2, ![24, 200]⟩ .f32) (tim : FVec Ideal ⟨2, ![1, 200]⟩ .f32) :
    FVec Ideal ⟨2, ![8192, 600]⟩ .f32 :=
  fun i => xAt (sub (ix1 (i 0))) (rel (ix1 (i 0))) ent remb tim (i 1)

/-- The whole matrix of log-probabilities: both layers applied to each row of the input matrix, mixed. -/
def logOut (sub rel : IVec ⟨1, ![8192]⟩ 32) (ent : FVec Ideal ⟨2, ![1000, 200]⟩ .f32)
    (remb : FVec Ideal ⟨2, ![24, 200]⟩ .f32) (tim : FVec Ideal ⟨2, ![1, 200]⟩ .f32)
    (gW : FVec Ideal ⟨2, ![600, 200]⟩ .f32) (gb : FVec Ideal ⟨1, ![200]⟩ .f32)
    (cW : FVec Ideal ⟨2, ![600, 200]⟩ .f32) (cb : FVec Ideal ⟨1, ![200]⟩ .f32) :
    FVec Ideal ⟨2, ![8192, 200]⟩ .f32 :=
  fun i => logAt
    (fun j => scoreAt (xAt (sub (ix1 (i 0))) (rel (ix1 (i 0))) ent remb tim) (fun k => gW (ix2 k j)) (gb (ix1 j)))
    (fun j => scoreAt (xAt (sub (ix1 (i 0))) (rel (ix1 (i 0))) ent remb tim) (fun k => cW (ix2 k j)) (cb (ix1 j)))
    (i 1)

/-- The three parts of an input row. -/
theorem xAt_sub (s r : BitVec 32) (ent rel tim) (x : Fin 200) :
    xAt s r ent rel tim ⟨x, by omega⟩ = entry s fun y => ent (ix2 y x) := by
  rw [xAt, dif_pos x.isLt]

/-- Columns 200 to 399 are the relation embedding. -/
theorem xAt_rel (s r : BitVec 32) (ent rel tim) (x : Fin 200) :
    xAt s r ent rel tim ⟨200 + x, by omega⟩ = entry r fun y => rel (ix2 y x) := by
  rw [xAt, dif_neg (show ¬200 + (x : ℕ) < 200 by omega), dif_pos (show 200 + (x : ℕ) < 400 by omega)]
  simp only [Nat.add_sub_cancel_left]

/-- Columns 400 to 599 are the time embedding. -/
theorem xAt_tim (s r : BitVec 32) (ent rel tim) (x : Fin 200) :
    xAt s r ent rel tim ⟨400 + x, by omega⟩ = tim (ix2 0 x) := by
  rw [xAt, dif_neg (show ¬400 + (x : ℕ) < 200 by omega), dif_neg (show ¬400 + (x : ℕ) < 400 by omega)]
  simp only [Nat.add_sub_cancel_left]

/-- A sum over the 600 columns of an input row is the sum over its three parts. -/
theorem sum_parts (f : Fin 600 → EReal) :
    ∑ k, f k = ∑ x : Fin 200, f ⟨x, by omega⟩ + ∑ x : Fin 200, f ⟨200 + x, by omega⟩
      + ∑ x : Fin 200, f ⟨400 + x, by omega⟩ := by
  rw [Fin.sum_univ_tiles 3 200 rfl f, Fin.sum_univ_three]
  simp only [Fin.val_zero, Fin.val_one, Fin.val_two, Nat.zero_mul, Nat.one_mul, Nat.zero_add, Nat.reduceMul]

end Cert.Spec

end
-- ==== Proof.Block.lean ====
/- What one grid point of the kernel stores: the rows of the input matrix and of the log-probabilities that its block of
   2048 rows covers, each quarter of 512 rows read by the same lemmas. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen Cert.Scalars Cert.Spec

/-! ## The gathered rows -/

section Gathered

variable (x0 x1 : Vec Ideal S1x1x2048 .i32) (x2 : FVec Ideal S1000x200 .f32) (x3 : FVec Ideal S24x200 .f32)
  (x4 : FVec Ideal S1x200 .f32) (x5 : FVec Ideal S600x456 .f32) (x6 : FVec Ideal S1x456 .f32)
  (i : Fin 512) (k : Fin 200)

/-- The subject rows of the four quarters: one-hot sums over the table of subjects. -/
theorem sub0 : k0_pay36 (F := Ideal) x0 x1 x2 x3 x4 x5 x6 (ix2 i k)
    = picked (x0 (ix3 0 0 ⟨i, by omega⟩)) fun y => x2 (ix2 y k) := by
  pointwise [k0_pay36, k0_pay10, k0_pay4, k0_pay6, picked]

/-- The subject rows of quarter 1, likewise. -/
theorem sub1 : k0_pay38 (F := Ideal) x0 x1 x2 x3 x4 x5 x6 (ix2 i k)
    = picked (x0 (ix3 0 0 ⟨512 + i, by omega⟩)) fun y => x2 (ix2 y k) := by
  pointwise [k0_pay38, k0_pay14, k0_pay28, k0_pay30, k0_pay32, k0_pay4, k0_pay6, picked]

/-- The subject rows of quarter 2, likewise. -/
theorem sub2 : k0_pay42 (F := Ideal) x0 x1 x2 x3 x4 x5 x6 (ix2 i k)
    = picked (x0 (ix3 0 0 ⟨1024 + i, by omega⟩)) fun y => x2 (ix2 y k) := by
  pointwise [k0_pay42, k0_pay21, k0_pay28, k0_pay30, k0_pay32, k0_pay4, k0_pay6, picked]

/-- The subject rows of quarter 3, likewise. -/
theorem sub3 : k0_pay45 (F := Ideal) x0 x1 x2 x3 x4 x5 x6 (ix2 i k)
    = picked (x0 (ix3 0 0 ⟨1536 + i, by omega⟩)) fun y => x2 (ix2 y k) := by
  pointwise [k0_pay45, k0_pay27, k0_pay28, k0_pay30, k0_pay32, k0_pay4, k0_pay6, picked]

/-- The relation rows of the four quarters: one-hot sums over the table of relations. -/
theorem rel0 : k0_pay37 (F := Ideal) x0 x1 x2 x3 x4 x5 x6 (ix2 i k)
    = picked (x1 (ix3 0 0 ⟨i, by omega⟩)) fun y => x3 (ix2 y k) := by
  pointwise [k0_pay37, k0_pay11, k0_pay5, k0_pay7, picked]

/-- The relation rows of quarter 1, likewise. -/
theorem rel1 : k0_pay18 (F := Ideal) (k0_pay33 x0 x1 x2 x3 x4 x5 x6) (k0_pay39 x0 x1 x2 x3 x4 x5 x6)
      (k0_pay40 x0 x1 x2 x3 x4 x5 x6) (k0_pay41 x0 x1 x2 x3 x4 x5 x6) (ix2 i k)
    = picked (x1 (ix3 0 0 ⟨512 + i, by omega⟩)) fun y => x3 (ix2 y k) := by
  pointwise [k0_pay18, k0_pay33, k0_pay39, k0_pay40, k0_pay41, k0_pay15, k0_pay16, k0_pay17, k0_pay29, k0_pay31,
    k0_pay5, k0_pay7, picked]

/-- The relation rows of quarter 2, likewise. -/
theorem rel2 : k0_pay23 (F := Ideal) (k0_pay33 x0 x1 x2 x3 x4 x5 x6) (k0_pay43 x0 x1 x2 x3 x4 x5 x6)
      (Scalar.ofBits .bf16 0x3F80#16) (ix2 i k)
    = picked (x1 (ix3 0 0 ⟨1024 + i, by omega⟩)) fun y => x3 (ix2 y k) := by
  pointwise [k0_pay23, k0_pay33, k0_pay43, k0_pay22, k0_pay29, k0_pay31, k0_pay5, k0_pay7, picked]

/-- The relation rows of quarter 3, likewise. -/
theorem rel3 : k0_pay1 (F := Ideal) (k0_pay33 x0 x1 x2 x3 x4 x5 x6) (k0_pay29 x0 x1 x2 x3 x4 x5 x6)
      (k0_pay44 x0 x1 x2 x3 x4 x5 x6) (ix2 i k)
    = picked (x1 (ix3 0 0 ⟨1536 + i, by omega⟩)) fun y => x3 (ix2 y k) := by
  pointwise [k0_pay1, k0_pay33, k0_pay44, k0_pay26, k0_pay29, k0_pay31, k0_pay5, k0_pay7, picked]

/-- The part of every score that the time stamp's embedding gives, with the bias. -/
theorem timPart (q : Fin 456) : k0_pay35 (F := Ideal) x0 x1 x2 x3 x4 x5 x6 (ix2 0 q)
    = ∑ x : Fin 200, x4 (ix2 0 x) * x5 (ix2 ⟨400 + x, by omega⟩ q) + x6 (ix2 0 q) := by
  pointwise [k0_pay35, k0_pay9, k0_pay8]

/-- The combined weights as loaded. -/
theorem weights (k : Fin 600) (q : Fin 456) :
    k0_pay34 (F := Ideal) x0 x1 x2 x3 x4 x5 x6 (ix2 k q) = x5 (ix2 k q) := by
  pointwise [k0_pay34, k0_pay8]

end Gathered

/-! ## The log-probabilities of a quarter -/

/-- Every quarter applies one function to its gathered rows: the one that the first quarter's payload states. -/
theorem quarter1 (v9 v13 v19 v70 v72 v73 v74) : k0_pay20 (F := Ideal) v9 v13 v19 v70 v72 v73 v74
    = k0_pay13 v13 v19 v70 (k0_pay18 v9 v72 v73 v74) := rfl

/-- The third quarter applies it too. -/
theorem quarter2 (v9 v13 v19 v111 v113 o) : k0_pay25 (F := Ideal) v9 v13 v19 v111 v113 o
    = k0_pay13 v13 v19 v111 (k0_pay23 v9 v113 o) := rfl

/-- The fourth quarter applies it too. -/
theorem quarter3 (v9 v13 v19 v21 v146 v152) : k0_pay3 (F := Ideal) v9 v13 v19 v21 v146 v152
    = k0_pay13 v13 v19 v152 (k0_pay1 v9 v21 v146) := rfl

/-- That function at one entry: from the three parts of an input row `X`, both affine layers' scores at the entry,
    mixed. The combined weights `W` hold the generation layer in columns 0–199 and the copy layer in columns 256–455. -/
theorem mix (v13 : FVec Ideal S600x456 .bf16) (v19 : FVec Ideal S1x456 .f32) (v29 v35 : FVec Ideal S512x200 .f32)
    (i : Fin 512) (j : Fin 200) (X : Fin 600 → EReal) (W : Fin 600 → Fin 456 → EReal) (b : Fin 456 → EReal)
    (hW : ∀ k q, v13 (ix2 k q) = W k q)
    (hs : ∀ x : Fin 200, v29 (ix2 i x) = X ⟨x, by omega⟩) (hr : ∀ x : Fin 200, v35 (ix2 i x) = X ⟨200 + x, by omega⟩)
    (ht : ∀ q, v19 (ix2 0 q) = ∑ x : Fin 200, X ⟨400 + x, by omega⟩ * W ⟨400 + x, by omega⟩ q + b q) :
    k0_pay13 (F := Ideal) v13 v19 v29 v35 (ix2 i j)
      = logAt (fun j => scoreAt X (fun k => W k ⟨j, by omega⟩) (b ⟨j, by omega⟩))
          (fun j => scoreAt X (fun k => W k ⟨256 + j, by omega⟩) (b ⟨256 + j, by omega⟩)) j := by
  have hscore : ∀ q, scoreAt X (fun k => W k q) (b q)
      = ∑ x : Fin 200, v29 (ix2 i x) * v13 (ix2 ⟨x, by omega⟩ q)
        + ∑ x : Fin 200, v35 (ix2 i x) * v13 (ix2 ⟨200 + x, by omega⟩ q) + v19 (ix2 0 q) := fun q => by
    rw [scoreAt, sum_parts, ht, ← add_assoc]
    simp only [hs, hr, hW]
  have hk : (Named.named κ "log_half" 0xBF317218#32 : Ideal .f32) = ((Real.log (1 / 2) : ℝ) : EReal) :=
    IdealRules.named_const.ideal_named_scalar _ _ _ _ rfl
  simp only [logAt, softAt, hscore]
  rw [← hk]
  pointwise [k0_pay13]

/-! ## The two stored blocks -/

section Stored

variable (x0 x1 : Vec Ideal S1x1x2048 .i32) (x2 : FVec Ideal S1000x200 .f32) (x3 : FVec Ideal S24x200 .f32)
  (x4 : FVec Ideal S1x200 .f32) (x5 : FVec Ideal S600x456 .f32) (x6 : FVec Ideal S1x456 .f32)
  (hs : ∀ r : Fin 2048, BitVec.toNat (x0 (ix3 0 0 r)) < 1000)
  (hr : ∀ r : Fin 2048, BitVec.toNat (x1 (ix3 0 0 r)) < 24)

include hs hr

/-- The block of the input matrix: row `r` is the input row of the subject and the relation at `r`, which are in
    range. -/
theorem stored_x (r : Fin 2048) (k : Fin 600) :
    out0_7 (F := Ideal) x0 x1 x2 x3 x4 x5 x6 (ix2 r k) = xAt (x0 (ix3 0 0 r)) (x1 (ix3 0 0 r)) x2 x3 x4 k := by
  obtain ⟨r, hr'⟩ := r
  obtain ⟨k, hk'⟩ := k
  unfold out0_7
  canon_tiles y h
  all_goals idx_vars y
  all_goals subst h0 h1
  all_goals first
    | (simp only [sub0, sub1, sub2, sub3]; rw [xAt_sub]; exact picked_eq (by norm_num) _ (hs _) _)
    | (simp only [rel0, rel1, rel2, rel3]; rw [xAt_rel]; exact picked_eq (by norm_num) _ (hr _) _)
    | (rw [xAt_tim]; pointwise [k0_pay12, k0_pay19, k0_pay24, k0_pay2])

/-- The block of the log-probabilities: row `r` is the mixed scores of the input row of the subject and the relation at
    `r`. The combined weights hold the generation layer in columns 0–199 and the copy layer in columns 256–455. -/
theorem stored_log (r : Fin 2048) (j : Fin 200) :
    out0_8 (F := Ideal) x0 x1 x2 x3 x4 x5 x6 (ix2 r j)
      = logAt
          (fun j => scoreAt (xAt (x0 (ix3 0 0 r)) (x1 (ix3 0 0 r)) x2 x3 x4)
            (fun k => x5 (ix2 k ⟨j, by omega⟩)) (x6 (ix2 0 ⟨j, by omega⟩)))
          (fun j => scoreAt (xAt (x0 (ix3 0 0 r)) (x1 (ix3 0 0 r)) x2 x3 x4)
            (fun k => x5 (ix2 k ⟨256 + j, by omega⟩)) (x6 (ix2 0 ⟨256 + j, by omega⟩))) j := by
  obtain ⟨r, hr'⟩ := r
  obtain ⟨j, hj'⟩ := j
  unfold out0_8
  rw [quarter1, quarter2, quarter3]
  canon_tiles y h
  all_goals idx_vars y
  all_goals subst h0 h1
  all_goals
    refine mix _ _ _ _ _ _ _ (fun k q => x5 (ix2 k q)) (fun q => x6 (ix2 0 q)) (fun k q => weights ..) (fun x => ?_)
      (fun x => ?_) (fun q => ?_)
    · simp only [sub0, sub1, sub2, sub3]
      rw [xAt_sub]
      exact picked_eq (by norm_num) _ (hs _) _
    · simp only [rel0, rel1, rel2, rel3]
      rw [xAt_rel]
      exact picked_eq (by norm_num) _ (hr _) _
    · simp only [xAt_tim]
      exact timPart ..

end Stored

end Cert.KernelIdeal.Block

end
-- ==== Proof.Arrays.lean ====
/- The arrays the kernel leaves, as functions of its arguments: the blocks each grid point reads, and the two results
   whole. -/
module

public import proofs.«01_k».proof.Proof.Block
public import proofs.«01_k».proof.Proof.Gen.KernelIdeal.Value
public import Idealize.ShloMosaic.Lib.Claim

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Block Cert.Scalars Cert.Spec

variable (m : (ℓ : Loc nD τ sig) → Buf (Elt Ideal) ℓ)

/-- The blocks the windows hold at each grid point: blocks of 2048 rows of the indices and of the results, everything
    else whole. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_8.index t = ![t.val, 0] :=
  (by decide +kernel : ∀ t : Fin grid0.N, _)

/-- The indices a grid point reads: row `r` of block `t` is row `2048 t + r` of the array. -/
theorem blk_sub (c : Dev nD) (t : Fin cfg0.N) (r : Fin 2048) (h : t.val * 2048 + r < 8192) :
    iblk m c 0 t (ix3 0 0 r) = m ((c.tc : Thread nD τ).loc main_arg3) (ix1 ⟨t.val * 2048 + r, h⟩) := by
  blk_point [iblk, V, idx t]

/-- The relation indices, likewise. -/
theorem blk_rel (c : Dev nD) (t : Fin cfg0.N) (r : Fin 2048) (h : t.val * 2048 + r < 8192) :
    iblk m c 1 t (ix3 0 0 r) = m ((c.tc : Thread nD τ).loc main_arg4) (ix1 ⟨t.val * 2048 + r, h⟩) := by
  blk_point [iblk, V, idx t]

/-- The tables of embeddings are read whole at every point. -/
theorem blk_ent (c : Dev nD) (t : Fin cfg0.N) : iblk m c 2 t = m ((c.tc : Thread nD τ).loc main_arg6) := by
  funext y
  idx_vars y
  blk_point [iblk, V, idx t]

/-- The relation embeddings, likewise. -/
theorem blk_remb (c : Dev nD) (t : Fin cfg0.N) : iblk m c 3 t = m ((c.tc : Thread nD τ).loc main_arg7) := by
  funext y
  idx_vars y
  blk_point [iblk, V, idx t]

/-- The time embedding, likewise. -/
theorem blk_tim (c : Dev nD) (t : Fin cfg0.N) : iblk m c 4 t = m ((c.tc : Thread nD τ).loc main_arg8) := by
  funext y
  idx_vars y
  blk_point [iblk, V, idx t]

/-- The combined weights: the generation layer's columns, 56 columns of zeros, the copy layer's columns. -/
noncomputable def weightsOf (gW cW : (⟨S600x200, .f32⟩ : BufTy).Contents (Elt Ideal)) :
    (⟨S600x456, .f32⟩ : BufTy).Contents (Elt Ideal) :=
  concatenate S600x456 1 [⟨S600x200, gW⟩,
    ⟨S600x56, broadcastInDim S600x56 ![] bcast_S_S600x56 (constant (F := Ideal) S_ .f32 0x00000000#32)⟩,
    ⟨S600x200, cW⟩] concatenates_S600x200_S600x56_S600x200_S600x456_d1

/-- The combined bias, as a row: the generation layer's, 56 zeros, the copy layer's. -/
noncomputable def biasOf (gb cb : (⟨S200, .f32⟩ : BufTy).Contents (Elt Ideal)) :
    (⟨S1x456, .f32⟩ : BufTy).Contents (Elt Ideal) :=
  shapeCast S1x456 (concatenate S456 0 [⟨S200, gb⟩,
    ⟨S56, broadcastInDim S56 ![] bcast_S_S56 (constant (F := Ideal) S_ .f32 0x00000000#32)⟩,
    ⟨S200, cb⟩] concatenates_S200_S56_S200_S456_d0) shapeCasts_S456_S1x456

/-- The first 200 columns of the combined weights are the generation layer's. -/
theorem weightsOf_g (gW cW) (k : Fin 600) (j : Fin 200) (h : j.val < 456) :
    weightsOf gW cW (ix2 k ⟨j.val, h⟩) = gW (ix2 k j) := by
  obtain ⟨j, hj⟩ := j
  pointwise [weightsOf]
  rw [dif_pos hj]

/-- Columns 256 to 455 of the combined weights are the copy layer's. -/
theorem weightsOf_c (gW cW) (k : Fin 600) (j : Fin 200) (h : 256 + j.val < 456) :
    weightsOf gW cW (ix2 k ⟨256 + j.val, h⟩) = cW (ix2 k j) := by
  obtain ⟨j, hj⟩ := j
  pointwise [weightsOf]
  rw [dif_neg (show ¬256 + j < 200 by omega), dif_neg (show ¬256 + j - 200 < 56 by omega)]
  simp only [show 256 + j - 200 - 56 = j by omega]

/-- Entries 0 to 199 of the combined bias are the generation layer's. -/
theorem biasOf_g (gb cb) (j : Fin 200) (h : j.val < 456) :
    biasOf gb cb (ix2 0 ⟨j.val, h⟩) = gb (ix1 j) := by
  obtain ⟨j, hj⟩ := j
  pointwise [biasOf]
  rw [dif_pos hj]

/-- Entries 256 to 455 of the combined bias are the copy layer's. -/
theorem biasOf_c (gb cb) (j : Fin 200) (h : 256 + j.val < 456) :
    biasOf gb cb (ix2 0 ⟨256 + j.val, h⟩) = cb (ix1 j) := by
  obtain ⟨j, hj⟩ := j
  pointwise [biasOf]
  rw [dif_neg (show ¬256 + j < 200 by omega), dif_neg (show ¬256 + j - 200 < 56 by omega)]
  simp only [show 256 + j - 200 - 56 = j by omega]

/-- The first matrix the launch reads is the combined weights of the arguments. -/
theorem V_weights (c : Dev nD) : V m c main_v3
    = weightsOf (m ((c.tc : Thread nD τ).loc main_arg9)) (m ((c.tc : Thread nD τ).loc main_arg11)) := by
  unfold V
  after_results
  rfl

/-- The bias the launch reads is the combined bias of the arguments. -/
theorem V_bias (c : Dev nD) : V m c main_v6
    = biasOf (m ((c.tc : Thread nD τ).loc main_arg10)) (m ((c.tc : Thread nD τ).loc main_arg12)) := by
  unfold V
  after_results
  rfl

/-- Every point is given the whole of the combined weights. -/
theorem blk_weights (c : Dev nD) (t : Fin cfg0.N) (k : Fin 600) (q : Fin 456) :
    iblk m c 5 t (ix2 k q) = V m c main_v3 (ix2 k q) := by
  blk_point [iblk, idx t]

/-- Every point is given the whole of the combined bias. -/
theorem blk_bias (c : Dev nD) (t : Fin cfg0.N) (q : Fin 456) :
    iblk m c 6 t (ix2 0 q) = V m c main_v6 (ix2 0 q) := by
  blk_point [iblk, idx t]

/-- So a grid point's block of the weights and of the bias holds the entries of both layers. -/
theorem blk_gW (c : Dev nD) (t : Fin cfg0.N) (k : Fin 600) (j : Fin 200) (h : j.val < 456) :
    iblk m c 5 t (ix2 k ⟨j.val, h⟩) = m ((c.tc : Thread nD τ).loc main_arg9) (ix2 k j) :=
  (blk_weights m c t k _).trans
    ((congrFun (V_weights m c) _).trans (weightsOf_g _ _ k j h))

/-- The generation bias, likewise. -/
theorem blk_gb (c : Dev nD) (t : Fin cfg0.N) (j : Fin 200) (h : j.val < 456) :
    iblk m c 6 t (ix2 0 ⟨j.val, h⟩) = m ((c.tc : Thread nD τ).loc main_arg10) (ix1 j) :=
  (blk_bias m c t _).trans
    ((congrFun (V_bias m c) _).trans (biasOf_g _ _ j h))

/-- The copy weights, likewise. -/
theorem blk_cW (c : Dev nD) (t : Fin cfg0.N) (k : Fin 600) (j : Fin 200) (h : 256 + j.val < 456) :
    iblk m c 5 t (ix2 k ⟨256 + j.val, h⟩) = m ((c.tc : Thread nD τ).loc main_arg11) (ix2 k j) :=
  (blk_weights m c t k _).trans
    ((congrFun (V_weights m c) _).trans (weightsOf_c _ _ k j h))

/-- The copy bias, likewise. -/
theorem blk_cb (c : Dev nD) (t : Fin cfg0.N) (j : Fin 200) (h : 256 + j.val < 456) :
    iblk m c 6 t (ix2 0 ⟨256 + j.val, h⟩) = m ((c.tc : Thread nD τ).loc main_arg12) (ix1 j) :=
  (blk_bias m c t _).trans
    ((congrFun (V_bias m c) _).trans (biasOf_c _ _ j h))

/-- Row `r` of the block a grid point `t` writes is row `2048 t + r` of the array. -/
theorem emb_x (t : Fin cfg0.N) (r : Fin 2048) (k : Fin 600) (h : t.val * 2048 + r < 8192) :
    (win0_7.blk t).view.emb (ix2 r k) = ix2 ⟨t.val * 2048 + r, h⟩ k := by
  blk_point [idx t]

/-- The same for the matrix of log-probabilities. -/
theorem emb_log (t : Fin cfg0.N) (r : Fin 2048) (j : Fin 200) (h : t.val * 2048 + r < 8192) :
    (win0_8.blk t).view.emb (ix2 r j) = ix2 ⟨t.val * 2048 + r, h⟩ j := by
  blk_point [idx t]

/-- The input matrix the kernel leaves, when every index names a row of its table. -/
theorem final_x (c : Dev nD) (hs : ∀ i, BitVec.toNat (m ((c.tc : Thread nD τ).loc main_arg3) i) < 1000)
    (hr : ∀ i, BitVec.toNat (m ((c.tc : Thread nD τ).loc main_arg4) i) < 24) :
    (dats m 0 c).arrAt 7 (cfgs 0).N = xOut (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  refine (dats m 0 c).arrAt_eq_of_covers 7 _ (by decide +kernel) fun t hf y => ?_
  have ht : t.val < 4 := t.isLt
  idx_vars y
  blk_simp
  rw [after0_7, stored_x (hs := fun r => by rw [blk_sub m c t r (by omega)]; exact hs _)
    (hr := fun r => by rw [blk_rel m c t r (by omega)]; exact hr _), emb_x t y0 y1 (by omega), blk_ent, blk_remb,
    blk_tim, blk_sub m c t y0 (by omega), blk_rel m c t y0 (by omega)]
  rfl

/-- The matrix of log-probabilities the kernel leaves, when every index names a row of its table. -/
theorem final_log (c : Dev nD) (hs : ∀ i, BitVec.toNat (m ((c.tc : Thread nD τ).loc main_arg3) i) < 1000)
    (hr : ∀ i, BitVec.toNat (m ((c.tc : Thread nD τ).loc main_arg4) i) < 24) :
    (dats m 0 c).arrAt 8 (cfgs 0).N
      = logOut (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 8 _ (by decide +kernel) fun t hf y => ?_
  have ht : t.val < 4 := t.isLt
  idx_vars y
  blk_simp
  rw [after0_8, stored_log (hs := fun r => by rw [blk_sub m c t r (by omega)]; exact hs _)
    (hr := fun r => by rw [blk_rel m c t r (by omega)]; exact hr _), emb_log t y0 y1 (by omega), blk_ent, blk_remb,
    blk_tim, blk_sub m c t y0 (by omega), blk_rel m c t y0 (by omega)]
  simp only [blk_gW, blk_gb, blk_cW, blk_cb]
  rfl

end Cert.KernelIdeal.Arrays
end
-- ==== Proof.Rows.lean ====
/- The reference's input matrix: `jnp.take` at in-range indices reads a row of a table, and the three parts joined are
   the input matrix of the specification. -/
module

public import proofs.«01_k».proof.Proof.Spec
public import proofs.«01_k».proof.Proof.Gen.ReferenceIdeal.Read
public import Idealize.ShloMosaic.Lib.Claim
public import Idealize.ShloMosaic.Lib.ReduceAll
public import Idealize.ShloMosaic.Lib.Routing.Ops

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Read Cert.Scalars Cert.Spec

/-- The signed value of a word below `n`, read unsigned, for an `n` no sign bit reaches. -/
theorem toInt_of_lt {n : ℕ} (hn : n ≤ 2 ^ 31) (w : BitVec 32) (hw : w.toNat < n) : w.toInt = w.toNat :=
  BitVec.toInt_eq_toNat_of_lt (by omega)

/-- The wrap of negative indices leaves an in-range index as it is. -/
theorem wrap (w v : BitVec 32) (hw : w.toNat < 2 ^ 31) : Scalar.select (IntOp.cmpi .slt w 0#32) v w = w := by
  have h : ¬IntOp.cmpi .slt w 0#32 = 1#1 := by
    rw [IntOp.cmpi_slt, toInt_of_lt le_rfl w hw]
    simp
  exact if_neg h

/-- The test for out-of-range indices passes an in-range index. -/
theorem inside {n : ℕ} (c : BitVec 32) (w : BitVec 32) (hw : w.toNat < n) (hn : n ≤ 2 ^ 31) (hc : c.toInt = n - 1) :
    IntOp.andi (IntOp.cmpi .sge w 0#32) (IntOp.cmpi .sle w c) = 1#1 := by
  rw [IntOp.andi_eq_one, IntOp.cmpi_sge, IntOp.cmpi_sle, toInt_of_lt hn w hw, hc]
  constructor
  · simp
  · omega

section Subject

variable (x3 : (⟨S8192, .i32⟩ : BufTy).Contents (Elt Ideal)) (x6 : (⟨S1000x200, .f32⟩ : BufTy).Contents (Elt Ideal))
  (h : ∀ i, BitVec.toNat (x3 i) < 1000)
include h

/-- The subject indices the reference gathers at are the indices given. -/
theorem sub_index (b : Fin 8192) : val_main_call0_v5 (F := Ideal) x3 (ix2 b 0) = x3 (ix1 b) := by
  pointwise [val_main_call0_v5, val_main_call0_v4, val_main_call0_v1, val_main_call0_v0, val_main_call0_c]
  exact wrap _ _ ((h _).trans (by norm_num))

/-- None of them is masked out. -/
theorem sub_inside (b : Fin 8192) : val_main_call0_v12 (F := Ideal) x3 (ix1 b) = 1#1 := by
  refine Host.reduce_andi_one _ _ _ _ _ rfl fun i => ?_
  idx_vars i
  obtain rfl : i1 = 0 := Subsingleton.elim _ _
  rw [val_main_call0_v11_apply, val_main_call0_v7_apply, val_main_call0_v10_apply, sub_index x3 h]
  pointwise [val_main_call0_v6, val_main_call0_v9, val_main_call0_v8, val_main_call0_c_1, val_main_call0_c_2]
  exact inside (n := 1000) _ _ (h _) (by norm_num) (by decide)

/-- The subject rows of the reference are the rows of the table. -/
theorem sub_row (b : Fin 8192) (k : Fin 200) :
    val_main_v22 (F := Ideal) x3 x6 (ix2 b k) = entry (x3 (ix1 b)) fun y => x6 (ix2 y k) := by
  have hm : val_main_call0_v14 (F := Ideal) x3 (ix2 b k) = 1#1 := by
    pointwise [val_main_call0_v14]
    exact sub_inside x3 h b
  have hg : val_main_call0_v13 (F := Ideal) x3 x6 (ix2 b k) = x6 (ix2 ⟨_, h (ix1 b)⟩ k) := by
    unfold val_main_call0_v13
    refine Routing.gather_row gather_S1000x200_S8192x1_S8192x200_1_0_n_n_0_1_1200 rfl rfl rfl rfl rfl _ _ b k
      ⟨_, h (ix1 b)⟩ ?_ (by norm_num)
    exact (sub_index x3 h b).trans (by rw [BitVec.ofNat_toNat, BitVec.setWidth_eq])
  rw [val_main_v22_apply, hm, hg, entry_of_lt _ _ (h (ix1 b))]
  rfl

end Subject

section Relation

variable (x4 : (⟨S8192, .i32⟩ : BufTy).Contents (Elt Ideal)) (x7 : (⟨S24x200, .f32⟩ : BufTy).Contents (Elt Ideal))
  (h : ∀ i, BitVec.toNat (x4 i) < 24)
include h

/-- The relation indices the reference gathers at are the indices given. -/
theorem rel_index (b : Fin 8192) : val_main_call1_v5 (F := Ideal) x4 (ix2 b 0) = x4 (ix1 b) := by
  pointwise [val_main_call1_v5, val_main_call1_v4, val_main_call1_v1, val_main_call1_v0, val_main_call1_c]
  exact wrap _ _ ((h _).trans (by norm_num))

/-- None of them is masked out. -/
theorem rel_inside (b : Fin 8192) : val_main_call1_v12 (F := Ideal) x4 (ix1 b) = 1#1 := by
  refine Host.reduce_andi_one _ _ _ _ _ rfl fun i => ?_
  idx_vars i
  obtain rfl : i1 = 0 := Subsingleton.elim _ _
  rw [val_main_call1_v11_apply, val_main_call1_v7_apply, val_main_call1_v10_apply, rel_index x4 h]
  pointwise [val_main_call1_v6, val_main_call1_v9, val_main_call1_v8, val_main_call1_c_1, val_main_call1_c_2]
  exact inside (n := 24) _ _ (h _) (by norm_num) (by decide)

/-- The relation rows of the reference are the rows of the table. -/
theorem rel_row (b : Fin 8192) (k : Fin 200) :
    val_main_v23 (F := Ideal) x4 x7 (ix2 b k) = entry (x4 (ix1 b)) fun y => x7 (ix2 y k) := by
  have hm : val_main_call1_v14 (F := Ideal) x4 (ix2 b k) = 1#1 := by
    pointwise [val_main_call1_v14]
    exact rel_inside x4 h b
  have hg : val_main_call1_v13 (F := Ideal) x4 x7 (ix2 b k) = x7 (ix2 ⟨_, h (ix1 b)⟩ k) := by
    unfold val_main_call1_v13
    refine Routing.gather_row gather_S24x200_S8192x1_S8192x200_1_0_n_n_0_1_1200 rfl rfl rfl rfl rfl _ _ b k
      ⟨_, h (ix1 b)⟩ ?_ (by norm_num)
    exact (rel_index x4 h b).trans (by rw [BitVec.ofNat_toNat, BitVec.setWidth_eq])
  rw [val_main_v23_apply, hm, hg, entry_of_lt _ _ (h (ix1 b))]
  rfl

end Relation

/-- The time part of the reference's input matrix is the one time row in every row. -/
theorem tim_row (x8 : (⟨S1x200, .f32⟩ : BufTy).Contents (Elt Ideal)) (b : Fin 8192) (k : Fin 200) :
    val_main_v26 (F := Ideal) x8 (ix2 b k) = x8 (ix2 0 k) := by
  pointwise [val_main_v26, val_main_v25, val_main_v24]

/-- The reference's input matrix is the specification's, when every index names a row of its table. -/
theorem ref_x (x3 x4 : (⟨S8192, .i32⟩ : BufTy).Contents (Elt Ideal))
    (x6 : (⟨S1000x200, .f32⟩ : BufTy).Contents (Elt Ideal)) (x7 : (⟨S24x200, .f32⟩ : BufTy).Contents (Elt Ideal))
    (x8 : (⟨S1x200, .f32⟩ : BufTy).Contents (Elt Ideal))
    (hs : ∀ i, BitVec.toNat (x3 i) < 1000) (hr : ∀ i, BitVec.toNat (x4 i) < 24) :
    val_main_v27 (F := Ideal) x3 x4 x6 x7 x8 = xOut x3 x4 x6 x7 x8 := by
  funext i
  idx_vars i
  show _ = xAt (x3 (ix1 i0)) (x4 (ix1 i0)) x6 x7 x8 i1
  pointwise [val_main_v27]
  unfold xAt
  by_cases h1 : (i1 : ℕ) < 200
  · rw [dif_pos h1, dif_pos h1, sub_row x3 x6 hs]
  · rw [dif_neg h1, dif_neg h1]
    by_cases h2 : (i1 : ℕ) < 400
    · rw [dif_pos (show (i1 : ℕ) - 200 < 200 by omega), dif_pos h2, rel_row x4 x7 hr]
    · rw [dif_neg (show ¬(i1 : ℕ) - 200 < 200 by omega), dif_neg h2, tim_row]
      simp only [Nat.sub_sub, Nat.reduceAdd]

end Cert.ReferenceIdeal.Rows
end
-- ==== Proof.Log.lean ====
/- The reference's matrix of log-probabilities: its softmax, shifted by a constant and by the row's maximum, is the plain
   one, and the logarithm of its mixture is the logarithm of the sum and the logarithm of one half. -/
module

public import proofs.«01_k».proof.Proof.Rows

@[expose] public section

set_option maxRecDepth 16384

noncomputable section

namespace Cert.ReferenceIdeal.Log

open Idealize.ShloMosaic Idealize.ShloMosaic.TcCoe Idealize.SL.Sem
open Cert.ReferenceIdeal Cert.ReferenceIdeal.Gen Cert.ReferenceIdeal.Read Cert.ReferenceIdeal.Rows Cert.Scalars Cert.Spec

variable (x0 x1 x2 : (⟨S500000, .i32⟩ : BufTy).Contents (Elt Ideal)) (x3 x4 : (⟨S8192, .i32⟩ : BufTy).Contents (Elt Ideal))
  (x6 : (⟨S1000x200, .f32⟩ : BufTy).Contents (Elt Ideal)) (x7 : (⟨S24x200, .f32⟩ : BufTy).Contents (Elt Ideal))
  (x8 : (⟨S1x200, .f32⟩ : BufTy).Contents (Elt Ideal)) (x9 : (⟨S600x200, .f32⟩ : BufTy).Contents (Elt Ideal))
  (x10 : (⟨S200, .f32⟩ : BufTy).Contents (Elt Ideal)) (x11 : (⟨S600x200, .f32⟩ : BufTy).Contents (Elt Ideal))
  (x12 : (⟨S200, .f32⟩ : BufTy).Contents (Elt Ideal))

/-- The word the reference starts its row maximum from is -∞. -/
theorem const_bot : Ideal.ofBits .f32 0xFF800000#32 = ⊥ := by simp [Ideal.ofBits, Ideal.ieee]

/-- The mixing weight of the reference is one half. -/
theorem const_half : Ideal.ofBits .f32 0x3F000000#32 = ((1 / 2 : ℝ) : EReal) := by
  simp [Ideal.ofBits, Ideal.ieee, -EReal.coe_mul]; norm_num

/-- The mask is one number for all rows, 0 or 1. -/
theorem mask (i : S_.Idx) : ∃ a : ℝ, val_main_v48 (F := Ideal) x0 x1 x2 x3 x4 i = (a : EReal) := by
  rw [val_main_v48_apply, Scalar.select]
  split
  · exact ⟨1, by pointwise [val_main_cst_12]; simp⟩
  · exact ⟨0, by pointwise [val_main_cst_13]; simp⟩

/-- The scores of the generation layer. -/
theorem gen_score (b : Fin 8192) (j : Fin 200) :
    val_main_v31 (F := Ideal) x3 x4 x6 x7 x8 x9 x10 (ix2 b j)
      = scoreAt (fun k => val_main_v27 (F := Ideal) x3 x4 x6 x7 x8 (ix2 b k)) (fun k => x9 (ix2 k j)) (x10 (ix1 j)) := by
  pointwise [val_main_v31, val_main_v28, val_main_v30, val_main_v29, scoreAt]

/-- The scores of the copy layer. -/
theorem copy_score (b : Fin 8192) (j : Fin 200) :
    val_main_v52 (F := Ideal) x3 x4 x6 x7 x8 x11 x12 (ix2 b j)
      = scoreAt (fun k => val_main_v27 (F := Ideal) x3 x4 x6 x7 x8 (ix2 b k)) (fun k => x11 (ix2 k j)) (x12 (ix1 j)) := by
  pointwise [val_main_v52, val_main_v49, val_main_v51, val_main_v50, scoreAt]

/-- The logits of the copy softmax: a hyperbolic tangent and the mask. -/
theorem logit (b : Fin 8192) (j : Fin 200) :
    val_main_v56 (F := Ideal) x0 x1 x2 x3 x4 x6 x7 x8 x11 x12 (ix2 b j)
      = Ideal.tanh (val_main_v52 (F := Ideal) x3 x4 x6 x7 x8 x11 x12 (ix2 b j)) + val_main_v48 (F := Ideal) x0 x1 x2 x3 x4 ix0 := by
  pointwise [val_main_v56, val_main_v53, val_main_v55, val_main_v54]
  simp only [id]

/-- The maximum of a row, over any matrix. -/
theorem fold_row (y : FVec Ideal S8192x200 .f32) (c : FVec Ideal S_ .f32) (b : Fin 8192) :
    Host.reduce (FloatOps.maximumf (F := Ideal) (φ := .f32)) y c reducesTo_S8192x200_S8192_d1 h_S_ (ix1 b)
      = (Finset.univ : Finset (Fin 200)).fold max (c (Shape.Idx.first h_S_)) fun j => y (ix2 b j) := by
  pointwise

/-- The maximum, from -∞, of some real numbers is -∞ or real; of at least one it is real. -/
theorem fold_max {ι : Type} [DecidableEq ι] (s : Finset ι) (f : ι → ℝ) :
    (s.fold max (⊥ : EReal) fun i => (f i : EReal)) = ⊥ ∨ Finite (s.fold max (⊥ : EReal) fun i => (f i : EReal)) := by
  induction s using Finset.induction_on with
  | empty => exact Or.inl (Finset.fold_empty)
  | insert a s ha ih => rw [Finset.fold_insert ha, max_comm]; exact Or.inr (Finite.max ih ⟨_, rfl⟩)

/-- The maximum of a whole row of real numbers is real. -/
theorem fold_max_univ {n : ℕ} (f : Fin (n + 1) → ℝ) :
    Finite (Finset.univ.fold max (⊥ : EReal) fun i => (f i : EReal)) := by
  rw [← Finset.insert_erase (Finset.mem_univ (0 : Fin (n + 1))), Finset.fold_insert (Finset.notMem_erase _ _), max_comm]
  exact Finite.max (fold_max _ _) ⟨_, rfl⟩

/-- The row maximum the reference subtracts is a real number. -/
theorem row_max (b : Fin 8192) (t : Fin 200 → ℝ)
    (ht : ∀ j, val_main_v56 (F := Ideal) x0 x1 x2 x3 x4 x6 x7 x8 x11 x12 (ix2 b j) = (t j : EReal)) :
    Finite (val_main_v59 (F := Ideal) x0 x1 x2 x3 x4 x6 x7 x8 x11 x12 (ix1 b)) := by
  have h57 : val_main_v57 (F := Ideal) x0 x1 x2 x3 x4 x6 x7 x8 x11 x12 (ix1 b)
      = (Finset.univ : Finset (Fin 200)).fold max ⊥ fun j => (t j : EReal) := by
    unfold val_main_v57
    rw [fold_row, val_main_cst_14_apply]
    simp only [ht]
    rw [Ideal.ofBits_def, const_bot]
  rw [val_main_v59_apply, h57]
  exact Finite.max (Or.inl (by pointwise [val_main_v58, val_main_cst_15]; exact const_bot)) (fold_max_univ t)

/-- The reference's softmax is the plain one: adding the mask to every logit and subtracting the row maximum changes
    nothing. -/
theorem soft (b : Fin 8192) (j : Fin 200) :
    val_main_v67 (F := Ideal) x0 x1 x2 x3 x4 x6 x7 x8 x11 x12 (ix2 b j)
      = softAt (fun j => val_main_v52 (F := Ideal) x3 x4 x6 x7 x8 x11 x12 (ix2 b j)) j := by
  choose t ht using fun j => tanh_real (val_main_v52 (F := Ideal) x3 x4 x6 x7 x8 x11 x12 (ix2 b j))
  obtain ⟨a, ha⟩ := mask x0 x1 x2 x3 x4 ix0
  have hl : ∀ j, val_main_v56 (F := Ideal) x0 x1 x2 x3 x4 x6 x7 x8 x11 x12 (ix2 b j) = (t j : EReal) + a := fun j => by
    rw [logit, ht, ha]
  obtain ⟨mx, hm⟩ := row_max x0 x1 x2 x3 x4 x6 x7 x8 x11 x12 b (fun j => t j + a) fun j => by rw [hl, EReal.coe_add]
  pointwise [val_main_v67, val_main_v66, val_main_v65, val_main_v64, val_main_v63, val_main_v62, val_main_v61,
    val_main_v60, val_main_cst_16]
  simp only [hl, hm, zero_add]
  unfold softAt
  simp only [ht]
  exact softmax_shift t a mx j

/-- Where the generation score is a real number, the reference's result is the specification's entry. -/
theorem mixed (b : Fin 8192) (j : Fin 200) (hg : Finite (val_main_v31 (F := Ideal) x3 x4 x6 x7 x8 x9 x10 (ix2 b j))) :
    val_main_v72 (F := Ideal) x0 x1 x2 x3 x4 x6 x7 x8 x9 x10 x11 x12 (ix2 b j)
      = logAt (fun j => val_main_v31 (F := Ideal) x3 x4 x6 x7 x8 x9 x10 (ix2 b j))
          (fun j => val_main_v52 (F := Ideal) x3 x4 x6 x7 x8 x11 x12 (ix2 b j)) j := by
  pointwise [val_main_v72, val_main_v71, val_main_v70, val_main_v69, val_main_cst_17, val_main_v68]
  rw [soft, const_half, logAt]
  obtain ⟨g, hg⟩ := hg
  choose t ht using fun j => tanh_real (val_main_v52 (F := Ideal) x3 x4 x6 x7 x8 x11 x12 (ix2 b j))
  unfold softAt
  simp only [ht, hg]
  rw [softmax_real t j]
  exact log_mix g _

/-- The reference's log-probabilities are the specification's, when every index names a row of its table and the
    numbers the generation scores are made of are finite. -/
theorem ref_log (hs : ∀ i, BitVec.toNat (x3 i) < 1000) (hr : ∀ i, BitVec.toNat (x4 i) < 24)
    (h6 : ∀ i, Finite (x6 i)) (h7 : ∀ i, Finite (x7 i)) (h8 : ∀ i, Finite (x8 i)) (h9 : ∀ i, Finite (x9 i))
    (h10 : ∀ i, Finite (x10 i)) :
    val_main_v72 (F := Ideal) x0 x1 x2 x3 x4 x6 x7 x8 x9 x10 x11 x12 = logOut x3 x4 x6 x7 x8 x9 x10 x11 x12 := by
  have hX : ∀ s r k, Finite (xAt s r x6 x7 x8 k) := fun s r k => by
    unfold xAt
    split
    · exact Finite.entry _ fun _ => h6 _
    · split
      · exact Finite.entry _ fun _ => h7 _
      · exact h8 _
  funext i
  idx_vars i
  have hg : Finite (val_main_v31 (F := Ideal) x3 x4 x6 x7 x8 x9 x10 (ix2 i0 i1)) := by
    rw [gen_score, ref_x x3 x4 x6 x7 x8 hs hr]
    exact (Finite.sum fun k => (hX _ _ k).mul (h9 _)).add (h10 _)
  rw [mixed x0 x1 x2 x3 x4 x6 x7 x8 x9 x10 x11 x12 i0 i1 hg]
  simp only [gen_score, copy_score, ref_x x3 x4 x6 x7 x8 hs hr]
  rfl

end Cert.ReferenceIdeal.Log
end
-- ==== Proof.Precondition.lean ====
/- What the precondition says: the indices name rows of their tables, and the numbers the generation scores are made of
   are finite. -/
module

public import proofs.«01_k».proof.Proof.Scalars
public import proofs.«01_k».proof.Pre_in_range_and_finite
public import Idealize.ShloMosaic.Lib.Affine
public import Idealize.ShloMosaic.Lib.Pointwise

@[expose] public section

noncomputable section

namespace Cert.Pre_in_range_and_finite

open Idealize.ShloMosaic Cert.Scalars

/-- The shape facts the precondition states. -/
theorem facts : Facts where
  bcast_S_S8192 := by decide
  bcast_S_S1000x200 := by decide
  bcast_S_S24x200 := by decide
  bcast_S_S1x200 := by decide
  bcast_S_S600x200 := by decide
  bcast_S_S200 := by decide

/-- A word between 0 and `n - 1`, read signed, is below `n` read unsigned. -/
theorem in_range {n : ℕ} (c w : BitVec 32) (hc : c.toInt = n)
    (h : IntOp.andi (IntOp.cmpi .sge w 0#32) (IntOp.cmpi .slt w c) = 1#1) : w.toNat < n := by
  rw [IntOp.andi_eq_one, IntOp.cmpi_sge, IntOp.cmpi_slt, hc, show (0#32 : BitVec 32).toInt = 0 by decide] at h
  have e := BitVec.toInt_eq_toNat_cond w
  have := w.isLt
  split at e <;> omega

/-- A value whose absolute value is below +∞ is a real number. -/
theorem real_of_abs (x : EReal) (h : Ideal.cmp .olt (max x (-x)) (Ideal.ofBits .f32 0x7F800000#32) = 1#1) : Finite x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

variable [Facts]

/-- The precondition's seven arrays of ones: subject indices below 1000, relation indices below 24, and finite
    embeddings, generation weights and generation bias. -/
theorem meaning (x0 x1 x2 : IVec S500000 32) (x3 x4 x5 : IVec S8192 32) (x6 : FVec Ideal S1000x200 .f32)
    (x7 : FVec Ideal S24x200 .f32) (x8 : FVec Ideal S1x200 .f32) (x9 : FVec Ideal S600x200 .f32)
    (x10 : FVec Ideal S200 .f32) (x11 : FVec Ideal S600x200 .f32) (x12 : FVec Ideal S200 .f32)
    (h : (fn (F := Ideal) x0 x1 x2 x3 x4 x5 x6 x7 x8 x9 x10 x11 x12).1 = (fun _ => 1#1)
      ∧ (fn (F := Ideal) x0 x1 x2 x3 x4 x5 x6 x7 x8 x9 x10 x11 x12).2.1 = (fun _ => 1#1)
      ∧ (fn (F := Ideal) x0 x1 x2 x3 x4 x5 x6 x7 x8 x9 x10 x11 x12).2.2.1 = (fun _ => 1#1)
      ∧ (fn (F := Ideal) x0 x1 x2 x3 x4 x5 x6 x7 x8 x9 x10 x11 x12).2.2.2.1 = (fun _ => 1#1)
      ∧ (fn (F := Ideal) x0 x1 x2 x3 x4 x5 x6 x7 x8 x9 x10 x11 x12).2.2.2.2.1 = (fun _ => 1#1)
      ∧ (fn (F := Ideal) x0 x1 x2 x3 x4 x5 x6 x7 x8 x9 x10 x11 x12).2.2.2.2.2.1 = (fun _ => 1#1)
      ∧ (fn (F := Ideal) x0 x1 x2 x3 x4 x5 x6 x7 x8 x9 x10 x11 x12).2.2.2.2.2.2 = (fun _ => 1#1)) :
    (∀ i, BitVec.toNat (x3 i) < 1000) ∧ (∀ i, BitVec.toNat (x4 i) < 24) ∧ (∀ i, Finite (x6 i)) ∧ (∀ i, Finite (x7 i))
      ∧ (∀ i, Finite (x8 i)) ∧ (∀ i, Finite (x9 i)) ∧ ∀ i, Finite (x10 i) := by
  dsimp only [fn, fn_part1] at h
  obtain ⟨h3, h4, h6, h7, h8, h9, h10⟩ := h
  refine ⟨fun i => ?_, fun i => ?_, fun i => ?_, fun i => ?_, fun i => ?_, fun i => ?_, fun i => ?_⟩
  · have h := congrFun h3 i
    pointwise at h
    exact in_range _ _ (by decide) h
  · have h := congrFun h4 i
    pointwise at h
    exact in_range _ _ (by decide) h
  · have h := congrFun h6 i
    pointwise at h
    exact real_of_abs _ h
  · have h := congrFun h7 i
    pointwise at h
    exact real_of_abs _ h
  · have h := congrFun h8 i
    pointwise at h
    exact real_of_abs _ h
  · have h := congrFun h9 i
    pointwise at h
    exact real_of_abs _ h
  · have h := congrFun h10 i
    pointwise at h
    exact real_of_abs _ h

end Cert.Pre_in_range_and_finite

end
-- ==== Proof.Equation.lean ====
/- The equation: under the precondition the kernel and the reference leave the same two arrays. -/
module

public import proofs.«01_k».proof.Defs
public import proofs.«01_k».proof.Proof.Arrays
public import proofs.«01_k».proof.Proof.Log
public import proofs.«01_k».proof.Proof.Precondition
public import proofs.«01_k».proof.Proof.Gen.ReferenceIdeal.Run
public import Idealize.ShloMosaic.Lib.Claim
public import Idealize.ShloMosaic.Lib.Quiescent

@[expose] public section

noncomputable section

namespace Cert.Equation

open Idealize.ShloMosaic Idealize.SL.Sem

/-- The shape facts that the statement of the precondition needs. -/
instance preFacts : Cert.Pre_in_range_and_finite.Facts := Cert.Pre_in_range_and_finite.facts

/-- Both programs end with the log-probabilities and the input matrix of the specification. -/
theorem kernel_eq_reference : Cert.algebraic_KernelIdeal_ReferenceIdeal_pre_in_range_and_finite := by
  pair_intro
  · run_from Cert.KernelIdeal.Gen.run_main m g
  · refine (θ_run _ _ _).mono (fun r h c => ?_) (Cert.ReferenceIdeal.Value.run m' g')
    obtain ⟨h72, h27, hargs⟩ := h c
    obtain ⟨hs, hr, h6, h7, h8, h9, h10⟩ := Cert.Pre_in_range_and_finite.meaning _ _ _ _ _ _ _ _ _ _ _ _ _ (hpre c)
    obtain ⟨a0, a1, a2, a3, a4, a5, a6, a7, a8, a9, a10, a11, a12⟩ := hagree c
    refine ⟨?_, ?_, hargs⟩
    · refine h72.trans ((Cert.ReferenceIdeal.Read.val_main_v72_eq m' c).trans ?_)
      rw [a0, a1, a2, a3, a4, a6, a7, a8, a9, a10, a11, a12]
      exact (Cert.ReferenceIdeal.Log.ref_log _ _ _ _ _ _ _ _ _ _ _ _ hs hr h6 h7 h8 h9 h10).trans
        (Cert.KernelIdeal.Arrays.final_log m c hs hr).symm
    · refine h27.trans ((Cert.ReferenceIdeal.Read.val_main_v27_eq _ _ _ _ _).trans ?_)
      rw [a3, a4, a6, a7, a8]
      exact (Cert.ReferenceIdeal.Rows.ref_x _ _ _ _ _ hs hr).trans (Cert.KernelIdeal.Arrays.final_x m c hs hr).symm

/-- From any start the reference runs to the end, leaves its arguments unchanged, and leaves every semaphore at zero:
    it has none. -/
theorem reference_frame : Cert.quiescent_ReferenceIdeal := fun m g _ =>
  (θ_run _ _ _).mono (fun r h => ⟨fun c => (h c).2.2, sem_eq_zero_of_no_sems (by decide) r.2⟩)
    (Cert.ReferenceIdeal.Value.run m g)

end Cert.Equation

end
-- ==== Proof.lean ====
module

public import proofs.«01_k».proof.Defs
public import proofs.«01_k».proof.Proof.Equation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal

@[expose] public section

noncomputable section

namespace Cert.Proof

open Idealize.ShloMosaic Idealize.SL.Sem

/-- The named constant: the kernel's `log_half` is the word of the real number `log (1/2)`, and is read as that number. -/
theorem preserves : Cert.preserves_Kernel_KernelIdeal :=
  IdealRules.named_const.statement Cert.KernelIdeal.κ "log_half" .f32 0xBF317218#32 ((Real.log (1 / 2) : ℝ) : EReal) rfl

/-- Every claim of the problem: the kernel, the kernel over the reals and the reference run to the end and leave their
    arguments unchanged, the named constant is what it says, and the kernel and the reference compute the same. -/
theorem claim : Cert.Claim :=
  ⟨Cert.Kernel.Gen.facts, Cert.KernelIdeal.Gen.facts, Cert.ReferenceIdeal.Gen.facts, Cert.Pre_in_range_and_finite.facts,
    fun m g _ => Cert.Kernel.Gen.frame m g,
    fun m g _ => Cert.KernelIdeal.Gen.frame m g,
    fun m g _ => Cert.KernelIdeal.Gen.frame m g,
    Equation.reference_frame,
    fun m g _ => Equation.reference_frame m g trivial,
    preserves,
    Equation.kernel_eq_reference⟩

end Cert.Proof

end
